-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x768 : Shape := ⟨2, ![16384, 768]⟩
abbrev S16384x1000 : Shape := ⟨2, ![16384, 1000]⟩
abbrev S16384 : Shape := ⟨1, ![16384]⟩
abbrev S768x1 : Shape := ⟨2, ![768, 1]⟩
abbrev S1 : Shape := ⟨1, ![1]⟩
abbrev S1000 : Shape := ⟨1, ![1000]⟩
abbrev S64x1x256 : Shape := ⟨3, ![64, 1, 256]⟩
abbrev S1x1 : Shape := ⟨2, ![1, 1]⟩
abbrev S1x1000 : Shape := ⟨2, ![1, 1000]⟩
abbrev S512x1000 : Shape := ⟨2, ![512, 1000]⟩
abbrev S1x512 : Shape := ⟨2, ![1, 512]⟩
abbrev S256x768 : Shape := ⟨2, ![256, 768]⟩
abbrev S256x1000 : Shape := ⟨2, ![256, 1000]⟩
abbrev S1x1x256 : Shape := ⟨3, ![1, 1, 256]⟩
abbrev S256x1 : Shape := ⟨2, ![256, 1]⟩
abbrev S256 : Shape := ⟨1, ![256]⟩
abbrev S256x512 : Shape := ⟨2, ![256, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x768, .f32⟩
  | .hbm, ⟨1, _⟩ => ⟨S16384x1000, .f32⟩
  | .hbm, ⟨2, _⟩ => ⟨S16384, .i32⟩
  | .hbm, ⟨3, _⟩ => ⟨S768x1, .f32⟩
  | .hbm, ⟨4, _⟩ => ⟨S1, .f32⟩
  | .hbm, ⟨5, _⟩ => ⟨S1000, .f32⟩
  | .hbm, ⟨6, _⟩ => ⟨S64x1x256, .i32⟩
  | .hbm, ⟨7, _⟩ => ⟨S1x1, .f32⟩
  | .hbm, ⟨8, _⟩ => ⟨S1x1000, .f32⟩
  | .hbm, ⟨9, _⟩ => ⟨S512x1000, .f32⟩
  | .hbm, ⟨10, _⟩ => ⟨S512x1000, .f32⟩
  | .hbm, ⟨11, _⟩ => ⟨S1x512, .f32⟩
  | .local _ .vmem, ⟨0, _⟩ => ⟨S256x768, .f32⟩
  | .local _ .vmem, ⟨1, _⟩ => ⟨S256x768, .f32⟩
  | .local _ .vmem, ⟨2, _⟩ => ⟨S256x1000, .f32⟩
  | .local _ .vmem, ⟨3, _⟩ => ⟨S256x1000, .f32⟩
  | .local _ .vmem, ⟨4, _⟩ => ⟨S1x1x256, .i32⟩
  | .local _ .vmem, ⟨5, _⟩ => ⟨S1x1x256, .i32⟩
  | .local _ .vmem, ⟨6, _⟩ => ⟨S768x1, .f32⟩
  | .local _ .vmem, ⟨7, _⟩ => ⟨S1x1, .f32⟩
  | .local _ .vmem, ⟨8, _⟩ => ⟨S1x1000, .f32⟩
  | .local _ .vmem, ⟨9, _⟩ => ⟨S512x1000, .f32⟩
  | .local _ .vmem, ⟨10, _⟩ => ⟨S512x1000, .f32⟩
  | .local _ .vmem, ⟨11, _⟩ => ⟨S1x512, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v35 : BitVec 1 := Scalar.cmpi .eq arg0 c63_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x768 : Shape := ⟨2, ![16384, 768]⟩
abbrev S16384x1000 : Shape := ⟨2, ![16384, 1000]⟩
abbrev S16384 : Shape := ⟨1, ![16384]⟩
abbrev S768x1 : Shape := ⟨2, ![768, 1]⟩
abbrev S1 : Shape := ⟨1, ![1]⟩
abbrev S1000 : Shape := ⟨1, ![1000]⟩
abbrev S16384x1 : Shape := ⟨2, ![16384, 1]⟩
abbrev S1x1 : Shape := ⟨2, ![1, 1]⟩
abbrev S512 : Shape := ⟨1, ![512]⟩
abbrev S1x512 : Shape := ⟨2, ![1, 512]⟩
abbrev S16384x512 : Shape := ⟨2, ![16384, 512]⟩
abbrev S_ : Shape := ⟨0, ![]⟩
abbrev S512x1 : Shape := ⟨2, ![512, 1]⟩
abbrev S512x1000 : Shape := ⟨2, ![512, 1000]⟩
abbrev S1x1000 : Shape := ⟨2, ![1, 1000]⟩

abbrev nBuf : Space → Nat
  | .hbm => 79
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x1000, .f32⟩
  | .hbm, ⟨2, _⟩ => ⟨S16384, .i32⟩
  | .hbm, ⟨3, _⟩ => ⟨S768x1, .f32⟩
  | .hbm, ⟨4, _⟩ => ⟨S1, .f32⟩
  | .hbm, ⟨5, _⟩ => ⟨S1000, .f32⟩
  | .hbm, ⟨6, _⟩ => ⟨S16384x1, .f32⟩
  | .hbm, ⟨7, _⟩ => ⟨S1x1, .f32⟩
  | .hbm, ⟨8, _⟩ => ⟨S16384x1, .f32⟩
  | .hbm, ⟨9, _⟩ => ⟨S16384x1, .f32⟩
  | .hbm, ⟨10, _⟩ => ⟨S16384x1, .i32⟩
  | .hbm, ⟨11, _⟩ => ⟨S512, .i32⟩
  | .hbm, ⟨12, _⟩ => ⟨S1x512, .i32⟩
  | .hbm, ⟨13, _⟩ => ⟨S16384x512, .i32⟩
  | .hbm, ⟨14, _⟩ => ⟨S16384x512, .i32⟩
  | .hbm, ⟨15, _⟩ => ⟨S16384x512, .i1⟩
  | .hbm, ⟨16, _⟩ => ⟨S_, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .i1⟩
  | .hbm, ⟨28, _⟩ => ⟨S_, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S512x1, .f32⟩
  | .hbm, ⟨45, _⟩ => ⟨S16384x1, .i32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .i1⟩
  | .hbm, ⟨50, _⟩ => ⟨S_, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S16384x1, .f32⟩
  | .hbm, ⟨63, _⟩ => ⟨S16384x1, .f32⟩
  | .hbm, ⟨64, _⟩ => ⟨S16384x1000, .f32⟩
  | .hbm, ⟨65, _⟩ => ⟨S16384x1000, .f32⟩
  | .hbm, ⟨66, _⟩ => ⟨S_, .f32⟩
  | .hbm, ⟨67, _⟩ => ⟨S512x1000, .f32⟩
  | .hbm, ⟨68, _⟩ => ⟨S16384x1, .i32⟩
  | .hbm, ⟨69, _⟩ => ⟨S512x1000, .f32⟩
  | .hbm, ⟨70, _⟩ => ⟨S1x1000, .f32⟩
  | .hbm, ⟨71, _⟩ => ⟨S_, .f32⟩
  | .hbm, ⟨72, _⟩ => ⟨S1x1000, .f32⟩
  | .hbm, ⟨73, _⟩ => ⟨S1x1000, .f32⟩
  | .hbm, ⟨74, _⟩ => ⟨S_, .f32⟩
  | .hbm, ⟨75, _⟩ => ⟨S1x1000, .f32⟩
  | .hbm, ⟨76, _⟩ => ⟨S1x1000, .f32⟩
  | .hbm, ⟨77, _⟩ => ⟨S512x1000, .f32⟩
  | .hbm, ⟨78, _⟩ => ⟨S512x1000, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]
-- ==== Proof.Softmax.lean ====
/- The extended-real identity behind the kernel: weights normalised by their sum after the greatest score is subtracted,
   against unnormalised exponentials divided by their sum once at the end. -/
module

public import Idealize.ShloMosaic.Lib.Pointwise

@[expose] public section

noncomputable section

namespace Cert.SegSoftmax

open Idealize.ShloMosaic

/-- The shift a document's scores get: the greatest score where that is a real number, zero where it is infinite. -/
def shift (M : EReal) : EReal := if max M (-M) < ⊤ then M else 0

/-- A denominator with zero replaced by one. -/
def nonzero (D : EReal) : EReal := if D = 0 then 1 else D

/-- The shift of a real number is that number. -/
theorem shift_coe (r : ℝ) : shift (r : EReal) = r := by
  unfold shift
  rw [if_pos]
  rw [max_lt_iff, ← EReal.coe_neg]
  exact ⟨EReal.coe_lt_top _, EReal.coe_lt_top _⟩

/-- The shift of positive infinity is zero. -/
theorem shift_top : shift ⊤ = 0 := by
  unfold shift
  rw [if_neg]
  simp

/-- The shift of negative infinity is zero. -/
theorem shift_bot : shift ⊥ = 0 := by
  unfold shift
  rw [if_neg]
  simp

/-- The exponential is never negative. -/
theorem exp_nonneg (x : EReal) : 0 ≤ Ideal.exp x := by
  induction x using EReal.rec with
  | bot => exact le_of_eq Ideal.exp_bot.symm
  | coe r => rw [Ideal.exp_coe]; exact_mod_cast (Real.exp_pos r).le
  | top => rw [Ideal.exp_top]; exact le_top

/-- Shifting a score below positive infinity by a real number scales its exponential by a real factor. -/
theorem exp_sub_coe (x : EReal) (r : ℝ) : Ideal.exp (x - (r : EReal)) = Ideal.exp x * ((Real.exp (-r) : ℝ) : EReal) := by
  induction x using EReal.rec with
  | bot => rw [EReal.bot_sub, Ideal.exp_bot, zero_mul]
  | coe y =>
    rw [← EReal.coe_sub, Ideal.exp_coe, Ideal.exp_coe, ← EReal.coe_mul, ← Real.exp_add, sub_eq_add_neg]
  | top =>
    rw [EReal.top_sub_coe, Ideal.exp_top, EReal.top_mul_coe_of_pos (Real.exp_pos _)]

/-- A nonnegative real factor goes through a sum of extended reals. -/
theorem sum_mul_real {ι : Type*} (A : Finset ι) (f : ι → EReal) (c : EReal) (h0 : 0 ≤ c) (ht : c ≠ ⊤) :
    (∑ i ∈ A, f i) * c = ∑ i ∈ A, f i * c := by
  classical
  induction A using Finset.induction_on with
  | empty => simp
  | insert a s ha ih => rw [Finset.sum_insert ha, Finset.sum_insert ha, EReal.right_distrib_of_nonneg_of_ne_top h0 ht, ih]

/-- A sum of exponentials with a score of positive infinity among them is positive infinity. -/
theorem sum_exp_top {ι : Type*} (A : Finset ι) (s : ι → EReal) (a : ι) (ha : a ∈ A) (h : s a = ⊤) :
    ∑ i ∈ A, Ideal.exp (s i) = ⊤ := by
  refine top_le_iff.1 ?_
  have := Finset.single_le_sum (f := fun i => Ideal.exp (s i)) (fun i _ => exp_nonneg (s i)) ha
  simpa [h] using this

/-- A sum of real numbers taken among the extended reals is their real sum. -/
theorem sum_coe {ι : Type*} (A : Finset ι) (f : ι → ℝ) : ∑ i ∈ A, ((f i : ℝ) : EReal) = ((∑ i ∈ A, f i : ℝ) : EReal) := by
  classical
  induction A using Finset.induction_on with
  | empty => simp
  | insert a s ha ih => rw [Finset.sum_insert ha, Finset.sum_insert ha, ih, EReal.coe_add]

/-- A sum of exponentials of scores below positive infinity, one of them a real number, is a positive real number. -/
theorem sum_exp_real {ι : Type*} (A : Finset ι) (s : ι → EReal) (h : ∀ i ∈ A, s i ≠ ⊤) (a : ι) (ha : a ∈ A) (hb : s a ≠ ⊥) :
    ∃ D : ℝ, 0 < D ∧ ∑ i ∈ A, Ideal.exp (s i) = (D : EReal) := by
  have hreal : ∀ i ∈ A, Ideal.exp (s i) = (((Ideal.exp (s i)).toReal : ℝ) : EReal) := by
    intro i hi
    have hi' := h i hi
    induction hs : s i using EReal.rec with
    | bot => rw [Ideal.exp_bot]; simp
    | coe r => rw [Ideal.exp_coe, EReal.toReal_coe]
    | top => exact absurd hs hi'
  have hsum : ∑ i ∈ A, Ideal.exp (s i) = ((∑ i ∈ A, (Ideal.exp (s i)).toReal : ℝ) : EReal) :=
    (Finset.sum_congr rfl hreal).trans (sum_coe A _)
  refine ⟨_, ?_, hsum⟩
  refine Finset.sum_pos' (fun i _ => EReal.toReal_nonneg (exp_nonneg _)) ⟨a, ha, ?_⟩
  have ha' := h a ha
  induction hs : s a using EReal.rec with
  | bot => exact absurd hs hb
  | coe r => rw [Ideal.exp_coe, EReal.toReal_coe]; exact Real.exp_pos r
  | top => exact absurd hs ha'

/-- A SEGMENT'S SOFTMAX-WEIGHTED SUM. Subtracting the guarded greatest score, normalising every weight and then adding the
    weighted values gives what dividing the unnormalised weighted sum once gives, for all extended-real scores and values. -/
theorem weighted_sum {ι : Type*} (A : Finset ι) (s l : ι → EReal) :
    ∑ i ∈ A, Ideal.div (Ideal.exp (s i - shift (A.sup s))) (nonzero (∑ j ∈ A, Ideal.exp (s j - shift (A.sup s)))) * l i
      = Ideal.div (∑ i ∈ A, Ideal.exp (s i) * l i) (nonzero (∑ i ∈ A, Ideal.exp (s i))) := by
  rcases A.eq_empty_or_nonempty with rfl | hne
  · simp [nonzero, Ideal.div]
  obtain ⟨a, ha, hM⟩ := A.exists_mem_eq_sup hne s
  have hle : ∀ i ∈ A, s i ≤ A.sup s := fun i hi => Finset.le_sup hi
  induction hs : A.sup s using EReal.rec with
  | bot =>
    have h0 : ∀ i ∈ A, Ideal.exp (s i) = 0 := fun i hi => by
      rw [le_bot_iff.1 ((hle i hi).trans_eq hs), Ideal.exp_bot]
    have hD : ∑ i ∈ A, Ideal.exp (s i) = 0 := Finset.sum_eq_zero h0
    have hN : ∑ i ∈ A, Ideal.exp (s i) * l i = 0 := Finset.sum_eq_zero fun i hi => by rw [h0 i hi, zero_mul]
    simp only [shift_bot, sub_zero]
    rw [hD, hN]
    refine (Finset.sum_eq_zero fun i hi => ?_).trans ?_
    · rw [h0 i hi]; simp [nonzero, Ideal.div]
    · simp [nonzero, Ideal.div]
  | top =>
    have hD : ∑ i ∈ A, Ideal.exp (s i) = ⊤ := sum_exp_top A s a ha (hM ▸ hs)
    simp only [shift_top, sub_zero]
    rw [hD]
    have hdiv : ∀ x : EReal, Ideal.div x (nonzero ⊤) = 0 := fun x => by simp [nonzero, Ideal.div]
    simp only [hdiv, zero_mul, Finset.sum_const_zero]
  | coe r =>
    obtain ⟨D, hDpos, hD⟩ := sum_exp_real A s (fun i hi e => by
      have := hle i hi
      rw [hs, e] at this
      exact absurd (top_le_iff.1 this) (EReal.coe_ne_top r)) a ha (by rw [← hM, hs]; exact EReal.coe_ne_bot r)
    simp only [shift_coe, exp_sub_coe]
    have hE : (0 : ℝ) < Real.exp (-r) := Real.exp_pos _
    rw [← sum_mul_real A (fun i => Ideal.exp (s i)) _ (by exact_mod_cast hE.le) (EReal.coe_ne_top _), hD, ← EReal.coe_mul]
    have hne0 : D * Real.exp (-r) ≠ 0 := (mul_pos hDpos hE).ne'
    have hn1 : nonzero ((D * Real.exp (-r) : ℝ) : EReal) = ((D * Real.exp (-r) : ℝ) : EReal) := by
      unfold nonzero; rw [if_neg (by exact_mod_cast hne0)]
    have hn2 : nonzero ((D : ℝ) : EReal) = ((D : ℝ) : EReal) := by
      unfold nonzero; rw [if_neg (by exact_mod_cast hDpos.ne')]
    rw [hn1, hn2, Ideal.div_coe hDpos.ne',
      sum_mul_real A _ _ (by exact_mod_cast (one_div_pos.2 hDpos).le) (EReal.coe_ne_top _)]
    refine Finset.sum_congr rfl fun i _ => ?_
    rw [Ideal.div_coe hne0, mul_assoc (Ideal.exp (s i)), ← EReal.coe_mul]
    have : Real.exp (-r) * (1 / (D * Real.exp (-r))) = 1 / D := by field_simp
    rw [this, mul_assoc, mul_assoc, mul_comm (l i)]

end Cert.SegSoftmax

end
-- ==== Proof.Lands.lean ====
/- The host's row scatter-add read at an index: which update rows land on a row of the operand. -/
module

public import Idealize.ShloMosaic.Lib.Pointwise
public import Idealize.ShloMosaic.Lib.Routing.Ops
public import Idealize.ShloMosaic.Lib.Routing.OpsOne

@[expose] public section

set_option maxRecDepth 16384

noncomputable section

namespace Cert.SegSoftmax

open Idealize.ShloMosaic Idealize.ShloMosaic.Routing

/-- A row scatter's update element `(i, k)` lands at `(d, c)` exactly when the index word of row `i`, read signed, is `d`
    and the columns agree. -/
theorem lands_row {N R C : Nat} (sd : ScatterDims (shape2 N C) (shape2 R 1) (shape2 R C)) (huw : sd.updateWindowDims = [1])
    (hiw : sd.insertedWindowDims = [0]) (hsd : sd.scatterDimsToOperandDims = [0]) (hivd : sd.indexVectorDim = 1)
    (idx : IVec (shape2 R 1) 32) (i : Fin R) (k : Fin C) (d : Fin N) (c : Fin C) :
    sd.resultIdx? (ix2 i k) idx = some (ix2 d c) ↔ (idx (ix2 i (0 : Fin 1))).toInt = (d.val : Int) ∧ k = c := by
  have hm : (0 : Fin 2) ∈ sd.scatterDimsToOperandDims := by rw [hsd]; exact List.mem_singleton.2 rfl
  have hkept : sd.sKept = [1] := by
    show (shape2 N C).kept sd.insertedWindowDims = _
    rw [hiw]
    rfl
  have hw0 : sd.window (ix2 i k) 0 = 0 := by
    unfold ScatterDims.window
    rw [dif_neg fun h => (of_decide_eq_true (List.mem_filter.1 h).2) (by rw [hiw]; exact List.mem_singleton.2 rfl)]
  have e1 : ∀ X : Fin 2, X = 1 → (ix2 i k X).val = k.val := fun X h => by subst h; rfl
  have e0 : ∀ X : Fin 2, X = 0 → (ix2 i k X).val = i.val := fun X h => by subst h; rfl
  have hk1 : ∀ X ∈ sd.updateWindowDims, X = (1 : Fin 2) := fun X hX => by rw [huw] at hX; exact List.mem_singleton.1 hX
  have hk0 : ∀ X ∈ sd.uScatter, X = (0 : Fin 2) := fun X hX => by
    have hX' : X ∉ sd.updateWindowDims := of_decide_eq_true (List.mem_filter.1 hX).2
    rw [huw] at hX'
    have h1 : X.val ≠ 1 := fun e => hX' (List.mem_singleton.2 (Fin.ext e))
    have h2 : X.val < 2 := X.isLt
    exact Fin.ext (by show X.val = 0; omega)
  have hw1 : sd.window (ix2 i k) 1 = k.val := by
    unfold ScatterDims.window
    rw [dif_pos (by rw [hkept]; exact List.mem_singleton.2 rfl)]
    exact e1 _ (hk1 _ (List.getElem_mem _))
  have hs1 : sd.start (ix2 i k) idx 1 = 0 := by
    unfold ScatterDims.start
    rw [dif_neg fun h => by rw [hsd] at h; exact absurd (List.mem_singleton.1 h) (by decide : (1 : Fin 2) ≠ 0)]
  have hs0 : sd.start (ix2 i k) idx 0 = (idx (ix2 i (0 : Fin 1))).toInt := by
    unfold ScatterDims.start
    rw [dif_pos hm]
    have hsi : sd.siIdx (ix2 i k) ⟨sd.scatterDimsToOperandDims.idxOf 0, List.idxOf_lt_length_iff.2 hm⟩ = ix2 i (0 : Fin 1) := by
      funext b
      apply Fin.ext
      match b with
      | ⟨0, hb⟩ =>
        unfold ScatterDims.siIdx
        rw [dif_neg (by rw [hivd]; exact Nat.zero_ne_one)]
        exact e0 _ (hk0 _ (List.getElem_mem _))
      | ⟨1, hb⟩ => exact congrArg Fin.val (Subsingleton.elim (α := Fin 1) _ _)
    rw [hsi]
  refine (resultIdx?_ix2 sd (ix2 i k) idx d c).trans ?_
  rw [Fin.ext_iff, hs0, hw0, hs1, hw1]
  omega

/-- THE ROW SCATTER-ADD AT `(d, c)`: the operand's element plus the sum, over the update rows whose index word reads `d`, of
    the update's element in column `c`. -/
theorem scatterAdd_row {N R C : Nat} (sd : ScatterDims (shape2 N C) (shape2 R 1) (shape2 R C)) (huw : sd.updateWindowDims = [1])
    (hiw : sd.insertedWindowDims = [0]) (hsd : sd.scatterDimsToOperandDims = [0]) (hivd : sd.indexVectorDim = 1)
    (x : FVec Ideal (shape2 N C) .f32) (idx : IVec (shape2 R 1) 32) (upd : FVec Ideal (shape2 R C) .f32) (d : Fin N) (c : Fin C) :
    Host.scatterAdd sd x idx upd (ix2 d c)
      = (show EReal from x (ix2 d c))
        + ∑ i ∈ Finset.univ.filter (fun i : Fin R => (idx (ix2 i (0 : Fin 1))).toInt = (d.val : Int)), (show EReal from upd (ix2 i c)) := by
  show Ideal.hostScatterAdd sd x idx upd (ix2 d c) = _
  unfold Ideal.hostScatterAdd
  refine Ideal.add_congr rfl ?_
  refine (Finset.sum_bij (fun (i : Fin R) _ => (ix2 i c : (shape2 R C).Idx)) ?_ ?_ ?_ ?_).symm
  · intro i hi
    rw [Finset.mem_filter] at hi ⊢
    exact ⟨Finset.mem_univ _, (lands_row sd huw hiw hsd hivd idx i c d c).2 ⟨hi.2, rfl⟩⟩
  · intro i _ i' _ h
    exact congrFun h 0
  · intro j hj
    obtain ⟨i, k, rfl⟩ : ∃ (i : Fin R) (k : Fin C), j = ix2 i k := ⟨j 0, j 1, eq_ix2 j⟩
    rw [Finset.mem_filter, lands_row sd huw hiw hsd hivd] at hj
    obtain ⟨-, h1, rfl⟩ := hj
    exact ⟨i, Finset.mem_filter.2 ⟨Finset.mem_univ _, h1⟩, rfl⟩
  · intro i _
    rfl

end Cert.SegSoftmax

end
-- ==== Proof.RefStages.lean ====
/- The reference's result as a composition of named stages. -/
module

public import proofs.«01_k».proof.Proof.Gen.ReferenceIdeal.Run
public import proofs.«01_k».proof.Proof.Softmax
public import proofs.«01_k».proof.Proof.Lands

@[expose] public section

set_option maxRecDepth 16384

noncomputable section

namespace Cert.SegSoftmax.Ref

open Cert.ReferenceIdeal Cert.ReferenceIdeal.Gen Idealize.ShloMosaic Idealize.ShloMosaic.TcCoe Idealize.SL.Sem

/-- The attention scores of all sentences. -/
def scoresT (X : FVec Ideal S16384x768 .f32) (W : FVec Ideal S768x1 .f32) (b : FVec Ideal S1 .f32) : FVec Ideal S16384x1 .f32 :=
  addf (Host.dotGeneral dot_S16384x768_S768x1_S16384x1_1_0_0_1_n_n none X W)
    (broadcastInDim S16384x1 ![0, 1] bcast_S1x1_S16384x1_0_1 (broadcastInDim S1x1 ![1] bcast_S1_S1x1_1 b))

/-- Each document's greatest score. -/
def maxT (s : FVec Ideal S16384x1 .f32) (ids : IVec S16384 32) : FVec Ideal S512x1 .f32 :=
  broadcastInDim S512x1 ![0] bcast_S512_S512x1_0
    (Host.reduce FloatOps.maximumf
      (select
        (cmpi .eq (broadcastInDim S16384x512 ![0, 1] bcast_S16384x1_S16384x512_0_1 (broadcastInDim S16384x1 ![0] bcast_S16384_S16384x1_0 ids))
          (broadcastInDim S16384x512 ![0, 1] bcast_S1x512_S16384x512_0_1 (broadcastInDim S1x512 ![1] bcast_S512_S1x512_1 (iotaInDim S512 32 0))))
        (broadcastInDim S16384x512 ![0, 1] bcast_S16384x1_S16384x512_0_1 s)
        (broadcastInDim S16384x512 ![] bcast_S_S16384x512 (id (constant S_ .f32 0xFF800000#32))))
      (constant S_ .f32 0xFF800000#32) reducesTo_S16384x512_S512_d0 h_S_)

/-- An array with its infinite elements replaced by zero. -/
def guardT (g : FVec Ideal S512x1 .f32) : FVec Ideal S512x1 .f32 :=
  select (cmpf .olt (Host.absf g) (broadcastInDim S512x1 ![] bcast_S_S512x1 (constant S_ .f32 0x7F800000#32)))
    g (broadcastInDim S512x1 ![] bcast_S_S512x1 (id (constant S_ .f32 0x00000000#32)))

/-- Each document's shift: its greatest score where that is finite, zero elsewhere. -/
def shiftT (s : FVec Ideal S16384x1 .f32) (ids : IVec S16384 32) : FVec Ideal S512x1 .f32 := guardT (maxT s ids)

/-- The row numbers the two gathers read: the document numbers, a negative one counted from the end. -/
def rowsT (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 512#32))) ids)

/-- The exponentials of the shifted scores. -/
def exT (s : FVec Ideal S16384x1 .f32) (ids : IVec S16384 32) : FVec Ideal S16384x1 .f32 :=
  Host.exp (subf s (Host.gather gather_S512x1_S16384x1_S16384x1_1_0_n_n_0_1_11 (shiftT s ids) (rowsT ids)))

/-- Each document's sum of exponentials. -/
def denT (s : FVec Ideal S16384x1 .f32) (ids : IVec S16384 32) : FVec Ideal S512x1 .f32 :=
  Host.scatterAdd scatter_S512x1_S16384x1_S16384x1_1_0_0_1 (broadcastInDim S512x1 ![] bcast_S_S512x1 (constant S_ .f32 0x00000000#32))
    (broadcastInDim S16384x1 ![0] bcast_S16384_S16384x1_0 ids) (exT s ids)

/-- An array with its zeros replaced by ones. -/
def oneT (g : FVec Ideal S512x1 .f32) : FVec Ideal S512x1 .f32 :=
  select (cmpf .oeq g (broadcastInDim S512x1 ![] bcast_S_S512x1 (constant S_ .f32 0x00000000#32)))
    (broadcastInDim S512x1 ![] bcast_S_S512x1 (id (constant S_ .f32 0x3F800000#32))) g

/-- Each document's denominator: its sum of exponentials, one where that is zero. -/
def den1T (s : FVec Ideal S16384x1 .f32) (ids : IVec S16384 32) : FVec Ideal S512x1 .f32 := oneT (denT s ids)

/-- The attention weights. -/
def weightT (s : FVec Ideal S16384x1 .f32) (ids : IVec S16384 32) : FVec Ideal S16384x1 .f32 :=
  Host.divf (exT s ids) (Host.gather gather_S512x1_S16384x1_S16384x1_1_0_n_n_0_1_11 (den1T s ids) (rowsT ids))

/-- The weighted logits. -/
def updT (s : FVec Ideal S16384x1 .f32) (ids : IVec S16384 32) (L : FVec Ideal S16384x1000 .f32) : FVec Ideal S16384x1000 .f32 :=
  mulf (broadcastInDim S16384x1000 ![0, 1] bcast_S16384x1_S16384x1000_0_1 (weightT s ids)) L

/-- The label term. -/
def maskT (k : FVec Ideal S1000 .f32) : FVec Ideal S512x1000 .f32 :=
  broadcastInDim S512x1000 ![0, 1] bcast_S1x1000_S512x1000_0_1
    (mulf (subf (broadcastInDim S1x1000 ![1] bcast_S1000_S1x1000_1 k) (broadcastInDim S1x1000 ![] bcast_S_S1x1000 (constant S_ .f32 0x3F800000#32)))
      (broadcastInDim S1x1000 ![] bcast_S_S1x1000 (constant S_ .f32 0x501502F9#32)))

/-- The documents' logits with the label term. -/
def outT (s : FVec Ideal S16384x1 .f32) (ids : IVec S16384 32) (L : FVec Ideal S16384x1000 .f32) (k : FVec Ideal S1000 .f32) : FVec Ideal S512x1000 .f32 :=
  addf (Host.scatterAdd scatter_S512x1000_S16384x1_S16384x1000_1_0_0_1 (broadcastInDim S512x1000 ![] bcast_S_S512x1000 (constant S_ .f32 0x00000000#32))
      (broadcastInDim S16384x1 ![0] bcast_S16384_S16384x1_0 ids) (updT s ids L)) (maskT k)

/-- The run's result is these stages composed. -/
theorem res_eq (m : (ℓ : Loc nD τ sig) → Buf (Elt Ideal) ℓ) (c : Dev nD) :
    Cert.ReferenceIdeal.Value.res_main_v51 m c
      = outT (scoresT (m ((c.tc : Thread nD τ).loc main_arg0)) (m ((c.tc : Thread nD τ).loc main_arg3)) (m ((c.tc : Thread nD τ).loc main_arg4)))
          (m ((c.tc : Thread nD τ).loc main_arg2)) (m ((c.tc : Thread nD τ).loc main_arg1)) (m ((c.tc : Thread nD τ).loc main_arg5)) := rfl

end Cert.SegSoftmax.Ref

end
-- ==== Proof.RefPoint.lean ====
/- The reference's stages read at an index. -/
module

public import proofs.«01_k».proof.Proof.RefStages

@[expose] public section

set_option maxRecDepth 16384

noncomputable section

namespace Cert.SegSoftmax.Ref

open Cert.ReferenceIdeal Cert.ReferenceIdeal.Gen Idealize.ShloMosaic Idealize.ShloMosaic.TcCoe Idealize.SL.Sem

/-- The pattern of negative infinity denotes it. -/
theorem ofBits_negInf : Ideal.ofBits .f32 0xFF800000#32 = (⊥ : EReal) := by simp [Ideal.ofBits, Ideal.ieee]

/-- The pattern of positive infinity denotes it. -/
theorem ofBits_posInf : Ideal.ofBits .f32 0x7F800000#32 = (⊤ : EReal) := by simp [Ideal.ofBits, Ideal.ieee]

/-- A sentence's score: the inner product of its features with the weights, plus the bias. -/
theorem scoresT_at (X : FVec Ideal S16384x768 .f32) (W : FVec Ideal S768x1 .f32) (b : FVec Ideal S1 .f32) (i : Fin 16384) :
    scoresT X W b (ix2 i (0 : Fin 1)) = (∑ k : Fin 768, X (ix2 i k) * W (ix2 k (0 : Fin 1))) + b (ix1 (0 : Fin 1)) := by
  pointwise [scoresT]

/-- A running maximum from negative infinity, over the entries a condition keeps, is the supremum over the kept entries. -/
theorem fold_max_sup {ι : Type} [Fintype ι] [DecidableEq ι] (p : ι → Prop) [DecidablePred p] (f : ι → EReal) :
    Finset.univ.fold max (⊥ : EReal) (fun i => if p i then f i else ⊥) = (Finset.univ.filter p).sup f := by
  rw [show Finset.univ.fold max (⊥ : EReal) (fun i => if p i then f i else ⊥) = Finset.univ.sup (fun i => if p i then f i else ⊥) from rfl]
  apply le_antisymm
  · refine Finset.sup_le fun i _ => ?_
    by_cases h : p i
    · rw [if_pos h]; exact Finset.le_sup (Finset.mem_filter.2 ⟨Finset.mem_univ i, h⟩)
    · rw [if_neg h]; exact bot_le
  · refine Finset.sup_le fun i hi => ?_
    have h : p i := (Finset.mem_filter.1 hi).2
    refine le_trans (le_of_eq (if_pos h).symm) (Finset.le_sup (f := fun i => if p i then f i else ⊥) (Finset.mem_univ i))

/-- A selection on an equality of words is the conditional on it. -/
theorem select_eq {w : Nat} (x y : BitVec w) (a b : EReal) :
    Scalar.select (IntOp.cmpi .eq x y) a b = if x = y then a else b := by
  by_cases h : x = y
  · rw [if_pos h]; simp [Scalar.select, IntOp.cmpi, h]
  · rw [if_neg h]
    have hb : (x == y) = false := beq_eq_false_iff_ne.2 h
    simp [Scalar.select, IntOp.cmpi, hb]

/-- A document's greatest score is the supremum over its sentences. -/
theorem maxT_at (s : FVec Ideal S16384x1 .f32) (ids : IVec S16384 32) (d : Fin 512) :
    maxT s ids (ix2 d (0 : Fin 1))
      = (Finset.univ.filter fun i : Fin 16384 => ids (ix1 i) = BitVec.ofNat 32 d.val).sup fun i => s (ix2 i (0 : Fin 1)) := by
  refine Eq.trans ?_ (fold_max_sup (fun i : Fin 16384 => ids (ix1 i) = BitVec.ofNat 32 d.val) fun i => s (ix2 i (0 : Fin 1)))
  pointwise [maxT, id_eq, ofBits_negInf, select_eq]

/-- The guard at an index. -/
theorem guardT_at (g : FVec Ideal S512x1 .f32) (d : Fin 512) :
    guardT g (ix2 d (0 : Fin 1)) = shift (g (ix2 d (0 : Fin 1))) := by
  pointwise [guardT, shift, id_eq, ofBits_posInf]
  rfl

/-- Where a document number is in range it is itself the row read. -/
theorem rowsT_at (ids : IVec S16384 32) (i : Fin 16384) (d : Fin 512) (h : ids (ix1 i) = BitVec.ofNat 32 d.val) :
    rowsT ids (ix2 i (0 : Fin 1)) = BitVec.ofNat 32 d.val := by
  pointwise [rowsT]
  rw [h]
  have hlt : IntOp.cmpi .slt (BitVec.ofNat 32 d.val) 0#32 = 0#1 := by
    have := (by decide +kernel : ∀ d : Fin 512, IntOp.cmpi .slt (BitVec.ofNat 32 d.val) 0#32 = 0#1)
    exact this d
  rw [hlt]
  rfl

/-- The label term at a column. -/
theorem maskT_at (k : FVec Ideal S1000 .f32) (d : Fin 512) (c : Fin 1000) :
    maskT k (ix2 d c) = (k (ix1 c) - 1) * Ideal.ofBits .f32 0x501502F9#32 := by
  pointwise [maskT]

/-- Zeros replaced by ones, at an index. -/
theorem oneT_at (g : FVec Ideal S512x1 .f32) (d : Fin 512) :
    oneT g (ix2 d (0 : Fin 1)) = nonzero (g (ix2 d (0 : Fin 1))) := by
  pointwise [oneT, nonzero, id_eq]

end Cert.SegSoftmax.Ref

end
-- ==== Proof.Pay.lean ====
/- The kernel body's stored values read at an index. -/
module

public import proofs.«01_k».proof.Proof.Gen.KernelIdeal.Skeleton
public import proofs.«01_k».proof.Proof.RefPoint

@[expose] public section

set_option maxRecDepth 16384

noncomputable section

namespace Cert.SegSoftmax.Ker

open Cert.KernelIdeal Cert.KernelIdeal.Gen Idealize.ShloMosaic Idealize.ShloMosaic.TcCoe Idealize.SL.Sem

/-- A row's masked exponential: the exponential of its score in its own document's column, zero in the others. -/
theorem pay4_at (x : Vec Ideal S256x768 .f32) (w : Vec Ideal S768x1 .f32) (b : Vec Ideal S1x1 .f32) (ids : Vec Ideal S1x1x256 .i32)
    (r : Fin 256) (d : Fin 512) :
    k0_pay4 (F := Ideal) x w b ids (ix2 r d)
      = if ids (ix3 (0 : Fin 1) (0 : Fin 1) r) = BitVec.ofNat 32 d.val
        then Ideal.exp ((∑ k : Fin 768, (show FVec Ideal S256x768 .f32 from x) (ix2 r k) * (show FVec Ideal S768x1 .f32 from w) (ix2 k (0 : Fin 1)))
          + (show FVec Ideal S1x1 .f32 from b) (ix2 (0 : Fin 1) (0 : Fin 1))) else (0 : EReal) := by
  pointwise [k0_pay4, Ref.select_eq]

/-- The first point's initial weighted sums are zero. -/
theorem pay2_at (d : Fin 512) (c : Fin 1000) : k0_pay2 (F := Ideal) (ix2 d c) = (0 : EReal) := by
  pointwise [k0_pay2]

/-- The first point's initial denominators are zero. -/
theorem pay3_at (d : Fin 512) : k0_pay3 (F := Ideal) (ix2 (0 : Fin 1) d) = (0 : EReal) := by
  pointwise [k0_pay3]

/-- A point adds its rows' masked exponentials to each document's denominator. -/
theorem pay5_at (x : Vec Ideal S256x768 .f32) (w : Vec Ideal S768x1 .f32) (b : Vec Ideal S1x1 .f32) (ids : Vec Ideal S1x1x256 .i32)
    (den : FVec Ideal S1x512 .f32) (d : Fin 512) :
    k0_pay5 (F := Ideal) x w b ids den (ix2 (0 : Fin 1) d)
      = den (ix2 (0 : Fin 1) d) + ∑ r : Fin 256, k0_pay4 (F := Ideal) x w b ids (ix2 r d) := by
  pointwise [k0_pay5]

/-- A point adds its rows' masked exponentials times their logits to each document's weighted sums. -/
theorem pay6_at (x : Vec Ideal S256x768 .f32) (w : Vec Ideal S768x1 .f32) (b : Vec Ideal S1x1 .f32) (ids : Vec Ideal S1x1x256 .i32)
    (num : FVec Ideal S512x1000 .f32) (l : FVec Ideal S256x1000 .f32) (d : Fin 512) (c : Fin 1000) :
    k0_pay6 (F := Ideal) x w b ids num l (ix2 d c)
      = num (ix2 d c) + ∑ r : Fin 256, k0_pay4 (F := Ideal) x w b ids (ix2 r d) * l (ix2 r c) := by
  pointwise [k0_pay6]

/-- The last point's result: the weighted sum over the denominator with zero replaced by one, plus the label term. -/
theorem pay1_at (den : FVec Ideal S1x512 .f32) (num : FVec Ideal S512x1000 .f32) (k : FVec Ideal S1x1000 .f32) (d : Fin 512) (c : Fin 1000) :
    k0_pay1 (F := Ideal) den num k (ix2 d c)
      = Ideal.div (num (ix2 d c)) (nonzero (den (ix2 (0 : Fin 1) d)))
        + (k (ix2 (0 : Fin 1) c) - 1) * Ideal.ofBits .f32 0x501502F9#32 := by
  pointwise [k0_pay1, nonzero]

end Cert.SegSoftmax.Ker

end
-- ==== Proof.KerSteps.lean ====
/- What each grid point leaves in the kernel's three output buffers, as the body's stored values. -/
module

public import proofs.«01_k».proof.Proof.Gen.KernelIdeal.Value
public import proofs.«01_k».proof.Proof.Pay
public import Idealize.ShloMosaic.Lib.Pipeline.ValueKit
public import Idealize.ShloMosaic.Lib.Claim

@[expose] public section

set_option maxRecDepth 16384

noncomputable section

namespace Cert.SegSoftmax.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The first point leaves its rows' weighted exponentials over zero. -/
theorem num_A (c : Dev nD) (t : Fin cfg0.N) (h0 : t.val % 64 = 0) (h1 : ¬t.val % 64 = 63) :
    (outsAt0 m c t.val t.isLt).2.1 = k0_pay6 (iblk m c 0 t) (iblk m c 3 t) (iblk m c 4 t) (iblk m c 2 t) (k0_pay2 (F := Ideal)) (iblk m c 1 t) := by
  rw [outsAt0_A m c t h0 h1]; frame_out

/-- The first point leaves its rows' exponentials over zero. -/
theorem den_A (c : Dev nD) (t : Fin cfg0.N) (h0 : t.val % 64 = 0) (h1 : ¬t.val % 64 = 63) :
    (outsAt0 m c t.val t.isLt).2.2 = k0_pay5 (iblk m c 0 t) (iblk m c 3 t) (iblk m c 4 t) (iblk m c 2 t) (k0_pay3 (F := Ideal)) := by
  rw [outsAt0_A m c t h0 h1]; frame_out

/-- A middle point adds its rows' weighted exponentials to what the point before left. -/
theorem num_B (c : Dev nD) (t : Fin cfg0.N) (h0 : ¬t.val % 64 = 0) (h1 : ¬t.val % 64 = 63) :
    (outsAt0 m c t.val t.isLt).2.1 = k0_pay6 (iblk m c 0 t) (iblk m c 3 t) (iblk m c 4 t) (iblk m c 2 t)
      (outsAt0 m c (t.val - 1) (Nat.lt_of_le_of_lt (Nat.sub_le _ _) t.isLt)).2.1 (iblk m c 1 t) := by
  rw [outsAt0_B m c t h0 h1]; frame_out

/-- A middle point adds its rows' exponentials to what the point before left. -/
theorem den_B (c : Dev nD) (t : Fin cfg0.N) (h0 : ¬t.val % 64 = 0) (h1 : ¬t.val % 64 = 63) :
    (outsAt0 m c t.val t.isLt).2.2 = k0_pay5 (iblk m c 0 t) (iblk m c 3 t) (iblk m c 4 t) (iblk m c 2 t)
      (outsAt0 m c (t.val - 1) (Nat.lt_of_le_of_lt (Nat.sub_le _ _) t.isLt)).2.2 := by
  rw [outsAt0_B m c t h0 h1]; frame_out

/-- The last point adds its rows' weighted exponentials to what the point before left. -/
theorem num_C (c : Dev nD) (t : Fin cfg0.N) (h0 : ¬t.val % 64 = 0) (h1 : t.val % 64 = 63) :
    (outsAt0 m c t.val t.isLt).2.1 = k0_pay6 (iblk m c 0 t) (iblk m c 3 t) (iblk m c 4 t) (iblk m c 2 t)
      (outsAt0 m c (t.val - 1) (Nat.lt_of_le_of_lt (Nat.sub_le _ _) t.isLt)).2.1 (iblk m c 1 t) := by
  rw [outsAt0_C m c t h0 h1]; frame_out

/-- The last point adds its rows' exponentials to what the point before left. -/
theorem den_C (c : Dev nD) (t : Fin cfg0.N) (h0 : ¬t.val % 64 = 0) (h1 : t.val % 64 = 63) :
    (outsAt0 m c t.val t.isLt).2.2 = k0_pay5 (iblk m c 0 t) (iblk m c 3 t) (iblk m c 4 t) (iblk m c 2 t)
      (outsAt0 m c (t.val - 1) (Nat.lt_of_le_of_lt (Nat.sub_le _ _) t.isLt)).2.2 := by
  rw [outsAt0_C m c t h0 h1]; frame_out

/-- The last point's result is computed from the finished sums. -/
theorem out_C (c : Dev nD) (t : Fin cfg0.N) (h0 : ¬t.val % 64 = 0) (h1 : t.val % 64 = 63) :
    (outsAt0 m c t.val t.isLt).1 = k0_pay1 (outsAt0 m c t.val t.isLt).2.2 (outsAt0 m c t.val t.isLt).2.1 (iblk m c 5 t) := by
  rw [num_C m c t h0 h1, den_C m c t h0 h1, outsAt0_C m c t h0 h1]; frame_out

/-- The input windows' block positions at each point. -/
theorem idx : ∀ t : Fin cfg0.N, win0_0.index t = ![t.val, 0] ∧ win0_1.index t = ![t.val, 0] ∧ win0_2.index t = ![t.val, 0, 0]
    ∧ win0_3.index t = ![0, 0] ∧ win0_4.index t = ![0, 0] ∧ win0_5.index t = ![0, 0] ∧ win0_6.index t = ![0, 0] :=
  (by decide +kernel : ∀ t : Fin grid0.N, win0_0.index t = ![t.val, 0] ∧ win0_1.index t = ![t.val, 0] ∧ win0_2.index t = ![t.val, 0, 0]
    ∧ win0_3.index t = ![0, 0] ∧ win0_4.index t = ![0, 0] ∧ win0_5.index t = ![0, 0] ∧ win0_6.index t = ![0, 0])

end Cert.SegSoftmax.Ker

end
-- ==== Proof.RefValue.lean ====
/- The reference's result at a document and a class, in closed form. -/
module

public import proofs.«01_k».proof.Proof.RefPoint

@[expose] public section

set_option maxRecDepth 16384

noncomputable section

namespace Cert.SegSoftmax

open Idealize.ShloMosaic

/-- The sentences of a document: those whose document number is its number. -/
def members (ids : IVec ⟨1, ![16384]⟩ 32) (d : Fin 512) : Finset (Fin 16384) :=
  Finset.univ.filter fun i : Fin 16384 => ids (ix1 i) = BitVec.ofNat 32 d.val

/-- Membership says the document number is the document's. -/
theorem mem_members (ids : IVec ⟨1, ![16384]⟩ 32) (d : Fin 512) (i : Fin 16384) :
    i ∈ members ids d ↔ ids (ix1 i) = BitVec.ofNat 32 d.val := by
  unfold members
  rw [Finset.mem_filter]
  exact ⟨fun h => h.2, fun h => ⟨Finset.mem_univ _, h⟩⟩

/-- A word reads a document's number as a signed integer exactly when it is that number's word. -/
theorem toInt_eq_iff (x : BitVec 32) (d : Fin 512) : x.toInt = (d.val : Int) ↔ x = BitVec.ofNat 32 d.val := by
  have hd : (BitVec.ofNat 32 d.val).toInt = (d.val : Int) := StableHlo.Predicate.toInt_ofNat_small _ (by omega)
  constructor
  · intro h
    exact BitVec.eq_of_toInt_eq (h.trans hd.symm)
  · rintro rfl
    exact hd

end Cert.SegSoftmax

namespace Cert.SegSoftmax.Ref

open Cert.ReferenceIdeal Cert.ReferenceIdeal.Gen Idealize.ShloMosaic Idealize.ShloMosaic.TcCoe Idealize.SL.Sem

/-- The column of document numbers at a row. -/
theorem col_at (ids : IVec S16384 32) (i : Fin 16384) :
    broadcastInDim S16384x1 ![0] bcast_S16384_S16384x1_0 ids (ix2 i (0 : Fin 1)) = ids (ix1 i) := by
  pointwise

/-- The sentences a row scatter adds to a document are its members. -/
theorem filter_eq (ids : IVec S16384 32) (d : Fin 512) :
    (Finset.univ.filter fun i : Fin 16384 =>
        (broadcastInDim S16384x1 ![0] bcast_S16384_S16384x1_0 ids (ix2 i (0 : Fin 1))).toInt = (d.val : Int)) = members ids d := by
  unfold members
  refine Finset.filter_congr fun i _ => ?_
  rw [col_at]
  exact toInt_eq_iff _ d

/-- A gather by the document numbers reads, for a member of a document, that document's row. -/
theorem gather_at (x : FVec Ideal S512x1 .f32) (ids : IVec S16384 32) (d : Fin 512) (i : Fin 16384) (h : i ∈ members ids d) :
    Host.gather gather_S512x1_S16384x1_S16384x1_1_0_n_n_0_1_11 x (rowsT ids) (ix2 i (0 : Fin 1)) = x (ix2 d (0 : Fin 1)) :=
  Routing.gather_row gather_S512x1_S16384x1_S16384x1_1_0_n_n_0_1_11 rfl rfl rfl rfl rfl x (rowsT ids) i (0 : Fin 1) d
    (rowsT_at ids i d ((mem_members ids d i).1 h)) (by decide)

/-- A member's exponential: its score less the document's shift. -/
theorem exT_at (s : FVec Ideal S16384x1 .f32) (ids : IVec S16384 32) (d : Fin 512) (i : Fin 16384) (h : i ∈ members ids d) :
    exT s ids (ix2 i (0 : Fin 1))
      = Ideal.exp (s (ix2 i (0 : Fin 1)) - shift ((members ids d).sup fun j => s (ix2 j (0 : Fin 1)))) := by
  have hg := gather_at (shiftT s ids) ids d i h
  have hs : shiftT s ids (ix2 d (0 : Fin 1)) = shift ((members ids d).sup fun j => s (ix2 j (0 : Fin 1))) :=
    (guardT_at (maxT s ids) d).trans (congrArg shift (maxT_at s ids d))
  rw [hs] at hg
  rw [← hg]
  pointwise [exT]

/-- A document's sum of exponentials. -/
theorem denT_at (s : FVec Ideal S16384x1 .f32) (ids : IVec S16384 32) (d : Fin 512) :
    denT s ids (ix2 d (0 : Fin 1))
      = ∑ i ∈ members ids d, Ideal.exp (s (ix2 i (0 : Fin 1)) - shift ((members ids d).sup fun j => s (ix2 j (0 : Fin 1)))) := by
  unfold denT
  refine (scatterAdd_row scatter_S512x1_S16384x1_S16384x1_1_0_0_1 rfl rfl rfl rfl _ _ _ d (0 : Fin 1)).trans ?_
  rw [filter_eq]
  have h0 : (broadcastInDim S512x1 ![] bcast_S_S512x1 (constant (F := Ideal) S_ .f32 0x00000000#32)) (ix2 d (0 : Fin 1)) = (0 : EReal) := by
    pointwise
  refine (Ideal.add_congr h0 (Finset.sum_congr rfl fun i hi => exT_at s ids d i hi)).trans ?_
  exact zero_add _

/-- A member's weight. -/
theorem weightT_at (s : FVec Ideal S16384x1 .f32) (ids : IVec S16384 32) (d : Fin 512) (i : Fin 16384) (h : i ∈ members ids d) :
    weightT s ids (ix2 i (0 : Fin 1)) = Ideal.div (exT s ids (ix2 i (0 : Fin 1))) (nonzero (denT s ids (ix2 d (0 : Fin 1)))) := by
  have hg := gather_at (den1T s ids) ids d i h
  have hs : den1T s ids (ix2 d (0 : Fin 1)) = nonzero (denT s ids (ix2 d (0 : Fin 1))) := oneT_at (denT s ids) d
  rw [hs] at hg
  rw [← hg]
  pointwise [weightT]

/-- A weighted logit is the sentence's weight times the logit. -/
theorem updT_at (s : FVec Ideal S16384x1 .f32) (ids : IVec S16384 32) (L : FVec Ideal S16384x1000 .f32) (i : Fin 16384) (c : Fin 1000) :
    updT s ids L (ix2 i c) = weightT s ids (ix2 i (0 : Fin 1)) * L (ix2 i c) := by
  pointwise [updT]

/-- THE REFERENCE AT A DOCUMENT AND A CLASS: the members' unnormalised weighted logits over their sum of exponentials, plus the
    label term. -/
theorem outT_at (s : FVec Ideal S16384x1 .f32) (ids : IVec S16384 32) (L : FVec Ideal S16384x1000 .f32) (k : FVec Ideal S1000 .f32)
    (d : Fin 512) (c : Fin 1000) :
    outT s ids L k (ix2 d c)
      = Ideal.div (∑ i ∈ members ids d, Ideal.exp (s (ix2 i (0 : Fin 1))) * L (ix2 i c))
          (nonzero (∑ i ∈ members ids d, Ideal.exp (s (ix2 i (0 : Fin 1)))))
        + (k (ix1 c) - 1) * Ideal.ofBits .f32 0x501502F9#32 := by
  unfold outT
  have hadd : ∀ x y : FVec Ideal S512x1000 .f32, addf x y (ix2 d c) = x (ix2 d c) + y (ix2 d c) := fun x y => rfl
  refine (hadd _ _).trans ?_
  refine Ideal.add_congr ?_ (maskT_at k d c)
  refine (scatterAdd_row scatter_S512x1000_S16384x1_S16384x1000_1_0_0_1 rfl rfl rfl rfl _ _ _ d c).trans ?_
  rw [filter_eq]
  have h0 : (broadcastInDim S512x1000 ![] bcast_S_S512x1000 (constant (F := Ideal) S_ .f32 0x00000000#32)) (ix2 d c) = (0 : EReal) := by
    pointwise
  refine (Ideal.add_congr h0 (Finset.sum_congr rfl fun i hi => ?_)).trans
    ((zero_add _).trans (weighted_sum (members ids d) (fun i => s (ix2 i (0 : Fin 1))) fun i => L (ix2 i c)))
  refine (updT_at s ids L i c).trans ?_
  rw [weightT_at s ids d i hi, exT_at s ids d i hi, denT_at s ids d]

end Cert.SegSoftmax.Ref

end
-- ==== Proof.KerValue.lean ====
/- The kernel's result array at a document and a class, in closed form. -/
module

public import proofs.«01_k».proof.Proof.KerSteps
public import proofs.«01_k».proof.Proof.RefValue

@[expose] public section

set_option maxRecDepth 16384

noncomputable section

namespace Cert.SegSoftmax.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The features at launch. -/
abbrev X0 (c : Dev nD) : FVec Ideal S16384x768 .f32 := m ((c : Thread nD τ).loc main_arg0)
/-- The logits at launch. -/
abbrev L0 (c : Dev nD) : FVec Ideal S16384x1000 .f32 := m ((c : Thread nD τ).loc main_arg1)
/-- The document numbers at launch. -/
abbrev I0 (c : Dev nD) : IVec S16384 32 := m ((c : Thread nD τ).loc main_arg2)
/-- The attention weights at launch. -/
abbrev W0 (c : Dev nD) : FVec Ideal S768x1 .f32 := m ((c : Thread nD τ).loc main_arg3)
/-- The bias at launch. -/
abbrev B0 (c : Dev nD) : FVec Ideal S1 .f32 := m ((c : Thread nD τ).loc main_arg4)
/-- The label mask at launch. -/
abbrev K0 (c : Dev nD) : FVec Ideal S1000 .f32 := m ((c : Thread nD τ).loc main_arg5)

/-- The sentence a row of a point's block is. -/
def row (t : Fin cfg0.N) (r : Fin 256) : Fin 16384 :=
  ⟨t.val * 256 + r.val, by have := lt_of_lt_of_eq t.isLt (show cfg0.N = 64 from N_0); omega⟩

/-- A sentence's score. -/
def score (c : Dev nD) (i : Fin 16384) : EReal :=
  (∑ k : Fin 768, X0 m c (ix2 i k) * W0 m c (ix2 k (0 : Fin 1))) + B0 m c (ix1 (0 : Fin 1))

/-- A point's features are its rows of the features. -/
theorem blk0 (c : Dev nD) (t : Fin cfg0.N) (r : Fin 256) (k : Fin 768) :
    (show FVec Ideal S256x768 .f32 from iblk m c 0 t) (ix2 r k) = X0 m c (ix2 (row t r) k) := by
  blk_ext [iblk, V, idx t, row]

/-- A point's logits are its rows of the logits. -/
theorem blk1 (c : Dev nD) (t : Fin cfg0.N) (r : Fin 256) (k : Fin 1000) :
    (show FVec Ideal S256x1000 .f32 from iblk m c 1 t) (ix2 r k) = L0 m c (ix2 (row t r) k) := by
  blk_ext [iblk, V, idx t, row]

/-- A point's weights are the attention weights. -/
theorem blk3 (c : Dev nD) (t : Fin cfg0.N) (k : Fin 768) :
    (show FVec Ideal S768x1 .f32 from iblk m c 3 t) (ix2 k (0 : Fin 1)) = W0 m c (ix2 k (0 : Fin 1)) := by
  blk_ext [iblk, V, idx t]

/-- A point's document numbers are its rows of the document numbers. -/
theorem blk2 (c : Dev nD) (t : Fin cfg0.N) (r : Fin 256) :
    (show IVec S1x1x256 32 from iblk m c 2 t) (ix3 (0 : Fin 1) (0 : Fin 1) r) = I0 m c (ix1 (row t r)) := by
  show (show IVec S64x1x256 32 from V m c main_v0) (((cfg0.win 2).blk t).view.emb (ix3 (0 : Fin 1) (0 : Fin 1) r)) = _
  entry_read
  pointwise
  blk_ext [idx t, row]

/-- A point's bias is the bias. -/
theorem blk4 (c : Dev nD) (t : Fin cfg0.N) :
    (show FVec Ideal S1x1 .f32 from iblk m c 4 t) (ix2 (0 : Fin 1) (0 : Fin 1)) = B0 m c (ix1 (0 : Fin 1)) := by
  show (show FVec Ideal S1x1 .f32 from V m c main_v1) (((cfg0.win 4).blk t).view.emb (ix2 (0 : Fin 1) (0 : Fin 1))) = _
  entry_read
  pointwise
  blk_ext [idx t]

/-- A point's label mask is the label mask. -/
theorem blk5 (c : Dev nD) (t : Fin cfg0.N) (k : Fin 1000) :
    (show FVec Ideal S1x1000 .f32 from iblk m c 5 t) (ix2 (0 : Fin 1) k) = K0 m c (ix1 k) := by
  show (show FVec Ideal S1x1000 .f32 from V m c main_v2) (((cfg0.win 5).blk t).view.emb (ix2 (0 : Fin 1) k)) = _
  entry_read
  pointwise
  blk_ext [idx t]

/-- A sentence's masked exponential in a document's column. -/
def term (c : Dev nD) (d : Fin 512) (i : Fin 16384) : EReal :=
  if I0 m c (ix1 i) = BitVec.ofNat 32 d.val then Ideal.exp (score m c i) else 0

/-- The masked exponentials a point computes are its rows'. -/
theorem pay4_blk (c : Dev nD) (t : Fin cfg0.N) (r : Fin 256) (d : Fin 512) :
    k0_pay4 (F := Ideal) (iblk m c 0 t) (iblk m c 3 t) (iblk m c 4 t) (iblk m c 2 t) (ix2 r d) = term m c d (row t r) := by
  refine (pay4_at (iblk m c 0 t) (iblk m c 3 t) (iblk m c 4 t) (iblk m c 2 t) r d).trans ?_
  unfold term score
  have h2 := blk2 m c t r
  have hs : (∑ k : Fin 768, (show FVec Ideal S256x768 .f32 from iblk m c 0 t) (ix2 r k) * (show FVec Ideal S768x1 .f32 from iblk m c 3 t) (ix2 k (0 : Fin 1)))
        + (show FVec Ideal S1x1 .f32 from iblk m c 4 t) (ix2 (0 : Fin 1) (0 : Fin 1))
      = (∑ k : Fin 768, X0 m c (ix2 (row t r) k) * W0 m c (ix2 k (0 : Fin 1))) + B0 m c (ix1 (0 : Fin 1)) :=
    Ideal.add_congr (Finset.sum_congr rfl fun k _ => Ideal.mul_congr (blk0 m c t r k) (blk3 m c t k)) (blk4 m c t)
  exact if_congr (iff_of_eq (congrArg (· = BitVec.ofNat 32 d.val) h2)) (congrArg Ideal.exp hs) rfl

/-- What a point adds to a document's denominator. -/
def denTerm (c : Dev nD) (t : Fin cfg0.N) (d : Fin 512) : EReal := ∑ r : Fin 256, term m c d (row t r)

/-- What a point adds to a document's weighted sum in a class. -/
def numTerm (c : Dev nD) (t : Fin cfg0.N) (p : Fin 512 × Fin 1000) : EReal :=
  ∑ r : Fin 256, term m c p.1 (row t r) * L0 m c (ix2 (row t r) p.2)

/-- A point's denominators over given ones. -/
theorem pay5_blk (c : Dev nD) (t : Fin cfg0.N) (den : FVec Ideal S1x512 .f32) (d : Fin 512) :
    k0_pay5 (F := Ideal) (iblk m c 0 t) (iblk m c 3 t) (iblk m c 4 t) (iblk m c 2 t) den (ix2 (0 : Fin 1) d)
      = den (ix2 (0 : Fin 1) d) + denTerm m c t d :=
  (pay5_at (iblk m c 0 t) (iblk m c 3 t) (iblk m c 4 t) (iblk m c 2 t) den d).trans
    (Ideal.add_congr rfl (Finset.sum_congr rfl fun r _ => pay4_blk m c t r d))

/-- A point's weighted sums over given ones. -/
theorem pay6_blk (c : Dev nD) (t : Fin cfg0.N) (num : FVec Ideal S512x1000 .f32) (p : Fin 512 × Fin 1000) :
    k0_pay6 (F := Ideal) (iblk m c 0 t) (iblk m c 3 t) (iblk m c 4 t) (iblk m c 2 t) num (iblk m c 1 t) (ix2 p.1 p.2)
      = num (ix2 p.1 p.2) + numTerm m c t p :=
  (pay6_at (iblk m c 0 t) (iblk m c 3 t) (iblk m c 4 t) (iblk m c 2 t) num (iblk m c 1 t) p.1 p.2).trans
    (Ideal.add_congr rfl (Finset.sum_congr rfl fun r _ => Ideal.mul_congr (pay4_blk m c t r p.1) (blk1 m c t r p.2)))

/-- The sum over the points of the sums over their rows is the sum over the sentences. -/
theorem sum_rows (t : Fin cfg0.N) (hr : t.val % 64 = 64 - 1) (f : Fin 16384 → EReal) :
    ∑ s : Fin 64, ∑ r : Fin 256, f (row ⟨64 * (t.val / 64) + s.val, Pipeline.run_point_lt_of_flush t hr s⟩ r) = ∑ i, f i := by
  refine Eq.trans ?_ (Fin.sum_univ_tiles 64 256 rfl f).symm
  have ht : t.val / 64 = 0 := by have := lt_of_lt_of_eq t.isLt (show cfg0.N = 64 from N_0); omega
  refine Finset.sum_congr rfl fun s _ => Finset.sum_congr rfl fun r _ => congrArg f (Fin.ext ?_)
  show (64 * (t.val / 64) + s.val) * 256 + r.val = s.val * 256 + r.val
  rw [ht]
  omega

/-- The sum of a document's masked terms is the sum over its members. -/
theorem sum_members (c : Dev nD) (d : Fin 512) (g : Fin 16384 → EReal) :
    ∑ i, term m c d i * g i = ∑ i ∈ members (I0 m c) d, Ideal.exp (score m c i) * g i := by
  unfold members
  rw [Finset.sum_filter]
  refine Finset.sum_congr rfl fun i _ => ?_
  unfold term
  by_cases h : I0 m c (ix1 i) = BitVec.ofNat 32 d.val
  · rw [if_pos h, if_pos h]
  · rw [if_neg h, if_neg h, zero_mul]

/-- After the last point a document's denominator is the sum of its members' exponentials. -/
theorem den_last (c : Dev nD) (t : Fin cfg0.N) (hr : t.val % 64 = 63) (d : Fin 512) :
    (outsAt0 m c t.val t.isLt).2.2 (ix2 (0 : Fin 1) d) = ∑ i ∈ members (I0 m c) d, Ideal.exp (score m c i) := by
  refine (Pipeline.eq_sum_fin_of_reset_step_apply_of_flush (fun n h (d : Fin 512) => (show EReal from (outsAt0 m c n h).2.2 (ix2 (0 : Fin 1) d)))
    64 (fun _ => (0 : EReal)) (fun t d => denTerm m c t d) ?_ ?_ t hr d).trans ?_
  · intro t h d
    show (outsAt0 m c t.val t.isLt).2.2 (ix2 (0 : Fin 1) d) = _
    rw [den_A m c t h (by omega)]
    exact (pay5_blk m c t _ d).trans (Ideal.add_congr (pay3_at d) rfl)
  · intro t h d
    show (outsAt0 m c t.val t.isLt).2.2 (ix2 (0 : Fin 1) d) = _
    by_cases h1 : t.val % 64 = 63
    · rw [den_C m c t h h1]; exact pay5_blk m c t _ d
    · rw [den_B m c t h h1]; exact pay5_blk m c t _ d
  · refine (zero_add _).trans ((sum_rows t hr (term m c d)).trans ?_)
    have := sum_members m c d fun _ => 1
    simpa only [mul_one] using this

/-- After the last point a document's weighted sum is the sum of its members' exponentials times their logits. -/
theorem num_last (c : Dev nD) (t : Fin cfg0.N) (hr : t.val % 64 = 63) (p : Fin 512 × Fin 1000) :
    (outsAt0 m c t.val t.isLt).2.1 (ix2 p.1 p.2) = ∑ i ∈ members (I0 m c) p.1, Ideal.exp (score m c i) * L0 m c (ix2 i p.2) := by
  refine (Pipeline.eq_sum_fin_of_reset_step_apply_of_flush (fun n h (p : Fin 512 × Fin 1000) => (show EReal from (outsAt0 m c n h).2.1 (ix2 p.1 p.2)))
    64 (fun _ => (0 : EReal)) (fun t p => numTerm m c t p) ?_ ?_ t hr p).trans ?_
  · intro t h p
    show (outsAt0 m c t.val t.isLt).2.1 (ix2 p.1 p.2) = _
    rw [num_A m c t h (by omega)]
    exact (pay6_blk m c t _ p).trans (Ideal.add_congr (pay2_at p.1 p.2) rfl)
  · intro t h p
    show (outsAt0 m c t.val t.isLt).2.1 (ix2 p.1 p.2) = _
    by_cases h1 : t.val % 64 = 63
    · rw [num_C m c t h h1]; exact pay6_blk m c t _ p
    · rw [num_B m c t h h1]; exact pay6_blk m c t _ p
  · exact (zero_add _).trans ((sum_rows t hr (fun i => term m c p.1 i * L0 m c (ix2 i p.2))).trans (sum_members m c p.1 fun i => L0 m c (ix2 i p.2)))

/-- The kernel's result at a document and a class. -/
def G (c : Dev nD) (d : Fin 512) (k : Fin 1000) : EReal :=
  Ideal.div (∑ i ∈ members (I0 m c) d, Ideal.exp (score m c i) * L0 m c (ix2 i k))
      (nonzero (∑ i ∈ members (I0 m c) d, Ideal.exp (score m c i)))
    + (K0 m c (ix1 k) - 1) * Ideal.ofBits .f32 0x501502F9#32

/-- What the last point stores, at a document and a class. -/
theorem out_last (c : Dev nD) (t : Fin cfg0.N) (hr : t.val % 64 = 63) (d : Fin 512) (k : Fin 1000) :
    (outsAt0 m c t.val t.isLt).1 (ix2 d k) = G m c d k := by
  rw [out_C m c t (by omega) hr]
  refine (pay1_at _ _ (iblk m c 5 t) d k).trans ?_
  unfold G
  rw [den_last m c t hr d, num_last m c t hr (d, k)]
  exact Ideal.add_congr rfl (congrArg (fun z : EReal => (z - 1) * Ideal.ofBits .f32 0x501502F9#32) (blk5 m c t k))

/-- THE KERNEL'S RESULT ARRAY after the run, at every document and class. -/
theorem final (c : Dev nD) :
    (dats m 0 c).arrAt 6 cfg0.N = (fun j : S512x1000.Idx => G m c (j 0) (j 1) : FVec Ideal S512x1000 .f32) := by
  refine (dats m 0 c).arrAt_eq_of_covers 6 _ (by decide +kernel) fun t hf y => ?_
  blk_simp
  rw [after0_6]
  have hr := (flush0_6 t).mp hf
  idx_vars y
  refine Eq.trans ?_ ((out_last m c t hr y0 y1).trans ?_)
  · rfl
  · refine congrArg₂ (G m c) (Fin.ext ?_) (Fin.ext ?_)
    · blk_simp [idx t]
    · blk_simp [idx t]

end Cert.SegSoftmax.Ker

end
-- ==== Proof.lean ====
/- The proof of the claim: both runs of the kernel and the run of the reference terminate with the arguments unchanged and every
   counter at zero, the idealised kernel keeps the kernel's own operations, and the kernel's result equals the reference's at every
   document and class, for all extended-real inputs and all document numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KerValue
public import proofs.«01_k».proof.Proof.Gen.ReferenceIdeal.Run
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The kernel's result array and the reference's result agree where their arguments do. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v51 m' c = (Cert.KernelIdeal.Gen.dats m 0 c).arrAt 6 Cert.KernelIdeal.cfg0.N := by
  refine (Cert.SegSoftmax.Ref.res_eq m' c).trans (Eq.trans ?_ (Cert.SegSoftmax.Ker.final m c).symm)
  rw [h0, h1, h2, h3, h4, h5]
  funext j
  obtain ⟨d, k, rfl⟩ : ∃ (d : Fin 512) (k : Fin 1000), j = ix2 d k := ⟨j 0, j 1, eq_ix2 j⟩
  refine (Cert.SegSoftmax.Ref.outT_at _ _ _ _ d k).trans ?_
  show _ = Cert.SegSoftmax.Ker.G m c d k
  unfold Cert.SegSoftmax.Ker.G
  have hs : ∀ i : Fin 16384, Cert.SegSoftmax.Ref.scoresT (Cert.SegSoftmax.Ker.X0 m c) (Cert.SegSoftmax.Ker.W0 m c) (Cert.SegSoftmax.Ker.B0 m c) (ix2 i (0 : Fin 1))
      = Cert.SegSoftmax.Ker.score m c i := fun i => Cert.SegSoftmax.Ref.scoresT_at _ _ _ i
  refine Ideal.add_congr (congrArg₂ Ideal.div (Finset.sum_congr rfl fun i _ => ?_) (congrArg Cert.SegSoftmax.nonzero (Finset.sum_congr rfl fun i _ => ?_))) rfl
  · exact Ideal.mul_congr (congrArg Ideal.exp (hs i)) rfl
  · exact congrArg Ideal.exp (hs i)

set_option maxHeartbeats 1600000 in
/-- The reference terminates with its arguments unchanged and every counter at zero. -/
theorem frame_reference : Cert.quiescent_ReferenceIdeal (hReferenceIdeal := Cert.ReferenceIdeal.Gen.facts) := by
  intro m g _
  refine (θ_run _ _ _).mono (fun r h => ⟨h, sem_eq_zero_of_no_sems rfl r.2⟩) ?_
  hlo_run

/-- The idealised kernel and the reference end with equal results from equal arguments. -/
theorem values : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · refine (θ_run _ _ _).mono (fun r h c => ?_) (Cert.ReferenceIdeal.Value.run m' g')
    obtain ⟨h0, h1, h2, h3, h4, h5⟩ := hagree c
    exact ⟨(h c).1.trans (results_eq m m' c h0 h1 h2 h3 h4 h5), (h c).2⟩

/-- Every claim of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, True.intro, values⟩

end Cert.Proof

end
